-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_apart : Cert.Pre_apart.Facts),
    quiescent_Kernel (hKernel := hKernel)
    ∧ quiescent_KernelIdeal (hKernelIdeal := hKernelIdeal)
    ∧ quiescent_KernelIdeal_pre_apart (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal_pre_apart (hKernelIdeal := hKernelIdeal) (hReferenceIdeal := hReferenceIdeal) (hPre_apart := hPre_apart)
-- ==== Pre_apart.lean ====
abbrev S4096x256 : Shape := ⟨2, ![4096, 256]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

class Facts : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  bcast_S_S4096x256 : S_.BroadcastsInDim S4096x256 (![] : Fin 0 → Fin S4096x256.rank)
  reducesTo_S4096x256_S_d0_1 : S4096x256.ReducesTo [0, 1] S_
  reducesTo_S4096x4096_S_d0_1 : S4096x4096.ReducesTo [0, 1] S_
  dot_S4096x256_S256x4096_S4096x4096_1_0_0_1_n_n_wf : DotDims.WF S4096x256 S256x4096 S4096x4096 [1] [0] [0] [1] [] []

variable [Facts]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def fn_part1 {F : FTy → Type} [FloatOps F] (main_v13 : FVec F S4096x4096 .f32) (main_v17 : IVec S_ 1) (main_v18 : FVec F S4096x256 .f32) : IVec S_ 1 :=
  let main_cst_3 : FVec F S_ .f32 := constant S_ .f32 0x7F800000#32
  let main_v19 : FVec F S4096x256 .f32 := broadcastInDim S4096x256 ![] bcast_S_S4096x256 main_cst_3
  let main_v20 : IVec S4096x256 1 := cmpf .olt main_v18 main_v19
  let main_c_4 : IVec S_ 1 := constantI S_ 1 1#1
  let main_v21 : IVec S_ 1 := (fun x v => Host.reduce IntOp.andi x v reducesTo_S4096x256_S_d0_1 h_S_) main_v20 main_c_4
  let main_v22 : IVec S_ 1 := andi main_v17 main_v21
  let main_cst_5 : FVec F S_ .f32 := constant S_ .f32 0x0DA24260#32
  let main_v23 : FVec F S4096x4096 .f32 := broadcastInDim S4096x4096 ![] bcast_S_S4096x4096 main_cst_5
  let main_v24 : IVec S4096x4096 1 := cmpf .oge main_v13 main_v23
  let main_c_6 : IVec S_ 1 := constantI S_ 1 1#1
  let main_v25 : IVec S_ 1 := (fun x v => Host.reduce IntOp.andi x v reducesTo_S4096x4096_S_d0_1 h_S_) main_v24 main_c_6
  let main_v26 : IVec S_ 1 := andi main_v22 main_v25
  main_v26

def fn {F : FTy → Type} [FloatOps F] (main_arg0 : FVec F S4096x256 .f32) (main_arg1 : FVec F S4096x256 .f32) (main_arg2 : FVec F S4096x64 .f32) : IVec S_ 1 :=
  let main_v0 : FVec F S4096x256 .f32 := mulf main_arg0 main_arg0
  let main_cst : FVec F S_ .f32 := constant S_ .f32 0x00000000#32
  let main_v1 : FVec F S4096 .f32 := (fun x v => Host.reduceAdd x v reducesTo_S4096x256_S4096_d1 h_S_) main_v0 main_cst
  let main_v2 : FVec F S4096x1 .f32 := broadcastInDim S4096x1 ![0] bcast_S4096_S4096x1_0 main_v1
  let main_v3 : FVec F S4096x256 .f32 := mulf main_arg1 main_arg1
  let main_cst_0 : FVec F S_ .f32 := constant S_ .f32 0x00000000#32
  let main_v4 : FVec F S4096 .f32 := (fun x v => Host.reduceAdd x v reducesTo_S4096x256_S4096_d1 h_S_) main_v3 main_cst_0
  let main_v5 : FVec F S1x4096 .f32 := broadcastInDim S1x4096 ![1] bcast_S4096_S1x4096_1 main_v4
  let main_v6 : FVec F S4096x4096 .f32 := broadcastInDim S4096x4096 ![0, 1] bcast_S4096x1_S4096x4096_0_1 main_v2
  let main_v7 : FVec F S4096x4096 .f32 := broadcastInDim S4096x4096 ![0, 1] bcast_S1x4096_S4096x4096_0_1 main_v5
  let main_v8 : FVec F S4096x4096 .f32 := addf main_v6 main_v7
  let main_v9 : FVec F S256x4096 .f32 := (transpose S256x4096 [1, 0] · transposes_S4096x256_S256x4096_1_0) main_arg1
  let main_v10 : FVec F S4096x4096 .f32 := (fun l r => Host.dotGeneral dot_S4096x256_S256x4096_S4096x4096_1_0_0_1_n_n none l r) main_arg0 main_v9
  let main_cst_1 : FVec F S_ .f32 := constant S_ .f32 0x40000000#32
  let main_v11 : FVec F S4096x4096 .f32 := broadcastInDim S4096x4096 ![] bcast_S_S4096x4096 main_cst_1
  let main_v12 : FVec F S4096x4096 .f32 := mulf main_v11 main_v10
  let main_v13 : FVec F S4096x4096 .f32 := subf main_v8 main_v12
  let main_v14 : FVec F S4096x256 .f32 := Host.absf main_arg0
  let main_cst_2 : FVec F S_ .f32 := constant S_ .f32 0x7F800000#32
  let main_v15 : FVec F S4096x256 .f32 := broadcastInDim S4096x256 ![] bcast_S_S4096x256 main_cst_2
  let main_v16 : IVec S4096x256 1 := cmpf .olt main_v14 main_v15
  let main_c : IVec S_ 1 := constantI S_ 1 1#1
  let main_v17 : IVec S_ 1 := (fun x v => Host.reduce IntOp.andi x v reducesTo_S4096x256_S_d0_1 h_S_) main_v16 main_c
  let main_v18 : FVec F S4096x256 .f32 := Host.absf main_arg1
  fn_part1 (F := F) main_v13 main_v17 main_v18
-- ==== Kernel.lean ====
abbrev S4096x256 : Shape := ⟨2, ![4096, 256]⟩
abbrev S4096x64 : Shape := ⟨2, ![4096, 64]⟩
abbrev S4096x4096 : Shape := ⟨2, ![4096, 4096]⟩
abbrev S1x4096 : Shape := ⟨2, ![1, 4096]⟩
abbrev S3x512x4096 : Shape := ⟨3, ![3, 512, 4096]⟩
abbrev S10 : Shape := ⟨1, ![10]⟩
abbrev S4 : Shape := ⟨1, ![4]⟩
abbrev S3 : Shape := ⟨1, ![3]⟩
abbrev S1 : Shape := ⟨1, ![1]⟩
abbrev S_ : Shape := ⟨0, ![]⟩
abbrev S256x256 : Shape := ⟨2, ![256, 256]⟩
abbrev S1024x256 : Shape := ⟨2, ![1024, 256]⟩
abbrev S512x256 : Shape := ⟨2, ![512, 256]⟩
abbrev S1x256 : Shape := ⟨2, ![1, 256]⟩
abbrev S256 : Shape := ⟨1, ![256]⟩
abbrev S256x1 : Shape := ⟨2, ![256, 1]⟩
abbrev S1x1024 : Shape := ⟨2, ![1, 1024]⟩
abbrev S256x1024 : Shape := ⟨2, ![256, 1024]⟩
abbrev S1x256x1024 : Shape := ⟨3, ![1, 256, 1024]⟩
abbrev S256x4096 : Shape := ⟨2, ![256, 4096]⟩
abbrev S1x256x4096 : Shape := ⟨3, ![1, 256, 4096]⟩
abbrev S512 : Shape := ⟨1, ![512]⟩
abbrev S512x1 : Shape := ⟨2, ![512, 1]⟩
abbrev S512x4096 : Shape := ⟨2, ![512, 4096]⟩
abbrev S1x512x4096 : Shape := ⟨3, ![1, 512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x64, .f32⟩
  | .hbm, ⟨3, _⟩ => ⟨S4096x4096, .f32⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S1x4096, .f32⟩
  | .local _ .vmem, ⟨4, _⟩ => ⟨S3x512x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩

abbrev nD : Nat := 1
abbrev τ : Topo := Topo.v7x

variable {F : FTy → Type} [FloatOps F]

abbrev grid0 : Pipeline.Grid := .none
-- ==== ReferenceIdeal.lean ====
abbrev S4096x256 : Shape := ⟨2, ![4096, 256]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x64, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x256, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S256x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameValue
public import Idealize.ShloMosaic.Lib.Ring
public import Idealize.ShloMosaic.Lib.Tactic

@[expose] public section

/-! One run of the kernel body: from its eight whole buffers and its seventeen DMA cells at zero to the same buffers and cells,
the result array written by ten row bands. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The memrefs of the body: the points `a`, `b` and the distances `o` in HBM, and the five scratch buffers. -/
abbrev aH : Memref sig .tc .hbm S4096x256 .f32 := Memref.whole main_arg0
abbrev bH : Memref sig .tc .hbm S4096x256 .f32 := Memref.whole main_arg1
abbrev oH : Memref sig .tc .hbm S4096x4096 .f32 := Memref.whole main_v0
abbrev aV : Memref sig .tc .vmem S4096x256 .f32 := Memref.whole cc0_scratch0
abbrev bV : Memref sig .tc .vmem S4096x256 .f32 := Memref.whole cc0_scratch1
abbrev bf : Memref sig .tc .vmem S4096x256 .bf16 := Memref.whole cc0_scratch2
abbrev b2 : Memref sig .tc .vmem S1x4096 .f32 := Memref.whole cc0_scratch3
abbrev oV : Memref sig .tc .vmem S3x512x4096 .f32 := Memref.whole cc0_scratch4

/-- The contents of a memref's buffer on core `c`. -/
abbrev BufOf (c : Dev nD) {sp : Space} {S : Shape} {e : EltTy} (M : Memref sig .tc sp S e) : Type := Buf (Elt F) (M.view.loc (c : Thread nD τ))
/-- A memref's buffer held whole. -/
abbrev pt (c : Dev nD) {sp : Space} {S : Shape} {e : EltTy} (M : Memref sig .tc sp S e) (f : BufOf (F := F) c M) : sProp 𝕄 :=
  M.view.loc (c : Thread nD τ) ↦{fullShare} f
/-- A DMA semaphore's cell at zero. -/
abbrev cell (c : Dev nD) (k : DmaSem sig) : sProp 𝕄 := semVal ((c : Thread nD τ), SemLoc.dma k) 0

/-- The seventeen cells at zero. -/
abbrev cells (c : Dev nD) : sProp 𝕄 :=
  iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16)

set_option maxHeartbeats 4000000 in
/-- The pieces written to the result, and the run that writes them. -/
def bodyRun (c : Dev nD) (fa : BufOf (F := F) c aH) (fb : BufOf (F := F) c bH) :
    { P : BufOf (F := F) c oV → List (View.Piece (Elt F) S4096x4096 .f32) //
      ∀ (fo : BufOf (F := F) c oH) (ga : BufOf (F := F) c aV) (gb : BufOf (F := F) c bV) (gf : BufOf (F := F) c bf)
        (g2 : BufOf (F := F) c b2) (go : BufOf (F := F) c oV) (W : Waits sig Unit) (K : PUnit → sProp 𝕄),
        iprop(pt c aH fa ∗ pt c bH fb ∗ pt c oH fo ∗ pt c aV ga ∗ pt c bV gb ∗ pt c bf gf ∗ pt c b2 g2 ∗ pt c oV go
            ∗ cells c ∗ owes (c : Thread nD τ) 0 W
            ∗ (iprop(pt c aH fa ∗ pt c bH fb ∗ pt c oH (oH.view.writes (Elt F) fo (P go))
                ∗ (∃ f, pt c aV f) ∗ (∃ f, pt c bV f) ∗ (∃ f, pt c bf f) ∗ (∃ f, pt c b2 f) ∗ (∃ f, pt c oV f)
                ∗ cells c ∗ (∃ W', owes (c : Thread nD τ) 0 W')) -∗ K ⟨⟩))
          ⊢ wp frame (wpE (defs₀ (F := F)) Variants.none (c : Thread nD τ) none) Set.univ (bodyAt0 t0_0) K } := by
  refine ⟨?P, fun fo ga gb gf g2 go W K => ?run⟩
  case run =>
  iintro ⟨Ha, Hb, Ho, Hav, Hbv, Hbf, Hb2, Hov, ⟨Hc0, Hc1, Hc2, Hc3, Hc4, Hc5, Hc6, Hc7, Hc8, Hc9, Hc10, Hc11, Hc12, Hc13, Hc14, Hc15, Hc16⟩, HW, Hk⟩
  unfold bodyAt0
  rw [cc0__cdist_manual_eq_skeleton]; unfold cc0__cdist_manual_skel
  set_option sl_exec.dmaWindow true in
  set_option sl_exec.dmaWindowLent true in
  sl_exec_parts
  sl_step
  iapply Hk
  isplitl [Ha]; · iexact Ha
  isplitl [Hb]; · iexact Hb
  isplitl [Ho]; · iexact Ho
  isplitl [Hav]; · iexists _; iexact Hav
  isplitl [Hbv]; · iexists _; iexact Hbv
  isplitl [Hbf]; · iexists _; iexact Hbf
  isplitl [Hb2]; · iexists _; iexact Hb2
  isplitl [Hov]; · iexists _; iexact Hov
  isplitr [HW]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  iexists _; iexact HW

end Cert.KernelIdeal.Hand
end
-- ==== Proof.Pieces.lean ====
module

public import proofs.«01_k».proof.Proof.Body
public import Idealize.ShloMosaic.Lib.HeldBySlice
public import Idealize.ShloMosaic.Lib.Pipeline.Value

@[expose] public section

/-! What the ten transfers to the result carry does not depend on what the staging ring held before the run: each reads a
window of the ring that the stores before it cover. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A window of the ring read after stores that cover it: the same over any contents of the ring before. -/
theorem window_indep {s' : Shape} (r : Rect S3x512x4096) (hr : ∀ a, r.stride a = 1) (hq : r.shape.Squeezes s')
    (L : List (View.Piece (Elt F) S3x512x4096 .f32)) (h : ∀ j, ∃ p ∈ L, r.toLoadRect.idx j ∈ p.1.set)
    (g g' : oV.view.ty.Contents (Elt F)) :
    ((oV.slice r hr).squeeze s' hq).view.read (Elt F) (oV.view.writes (Elt F) g L)
      = ((oV.slice r hr).squeeze s' hq).view.read (Elt F) (oV.view.writes (Elt F) g' L) := by
  have e := View.readAt_writes_eq_of_cover oV.view g g' L r.toLoadRect h
  funext y
  exact congrFun e (Shape.reshapeEquiv hq.numel_eq y)

variable (c : Dev nD) (fa : BufOf (F := F) c aH) (fb : BufOf (F := F) c bH) (g g' : BufOf (F := F) c oV)

theorem dma29_indep : bodyRun.sl.dma29 c fa fb g = bodyRun.sl.dma29 c fa fb g' :=
  window_indep _ _ _ (bodyRun.sl.Hov_4 c fa fb) (LoadRect.cover_of_covChk _ _ (.split 2 1024 (.leaf 3) (.split 2 1024 (.leaf 2) (.split 2 1024 (.leaf 1) (.leaf 0)))) (by rfl)) g g'
theorem dma34_indep : bodyRun.sl.dma34 c fa fb g = bodyRun.sl.dma34 c fa fb g' :=
  window_indep _ _ _ (bodyRun.sl.Hov_5 c fa fb) (LoadRect.cover_of_covChk _ _ (.leaf 0) (by rfl)) g g'
theorem dma39_indep : bodyRun.sl.dma39 c fa fb g = bodyRun.sl.dma39 c fa fb g' :=
  window_indep _ _ _ (bodyRun.sl.Hov_6 c fa fb) (LoadRect.cover_of_covChk _ _ (.leaf 0) (by rfl)) g g'
theorem dma44_indep : bodyRun.sl.dma44 c fa fb g = bodyRun.sl.dma44 c fa fb g' :=
  window_indep _ _ _ (bodyRun.sl.Hov_7 c fa fb) (LoadRect.cover_of_covChk _ _ (.leaf 0) (by rfl)) g g'
theorem dma49_indep : bodyRun.sl.dma49 c fa fb g = bodyRun.sl.dma49 c fa fb g' :=
  window_indep _ _ _ (bodyRun.sl.Hov_8 c fa fb) (LoadRect.cover_of_covChk _ _ (.leaf 0) (by rfl)) g g'
theorem dma54_indep : bodyRun.sl.dma54 c fa fb g = bodyRun.sl.dma54 c fa fb g' :=
  window_indep _ _ _ (bodyRun.sl.Hov_9 c fa fb) (LoadRect.cover_of_covChk _ _ (.leaf 0) (by rfl)) g g'
theorem dma59_indep : bodyRun.sl.dma59 c fa fb g = bodyRun.sl.dma59 c fa fb g' :=
  window_indep _ _ _ (bodyRun.sl.Hov_10 c fa fb) (LoadRect.cover_of_covChk _ _ (.leaf 0) (by rfl)) g g'
theorem dma64_indep : bodyRun.sl.dma64 c fa fb g = bodyRun.sl.dma64 c fa fb g' :=
  window_indep _ _ _ (bodyRun.sl.Hov_11 c fa fb) (LoadRect.cover_of_covChk _ _ (.leaf 0) (by rfl)) g g'
theorem dma69_indep : bodyRun.sl.dma69 c fa fb g = bodyRun.sl.dma69 c fa fb g' :=
  window_indep _ _ _ (bodyRun.sl.Hov_12 c fa fb) (LoadRect.cover_of_covChk _ _ (.leaf 0) (by rfl)) g g'
theorem dma74_indep : bodyRun.sl.dma74 c fa fb g = bodyRun.sl.dma74 c fa fb g' :=
  window_indep _ _ _ (bodyRun.sl.Hov_13 c fa fb) (LoadRect.cover_of_covChk _ _ (.leaf 0) (by rfl)) g g'

/-- The ten pieces written to the result are the same over any contents of the ring before the run. -/
theorem pieces_indep : (bodyRun c fa fb).1 g = (bodyRun c fa fb).1 g' := by
  simp only [bodyRun]
  rw [dma29_indep c fa fb g g', dma34_indep c fa fb g g', dma39_indep c fa fb g g', dma44_indep c fa fb g g', dma49_indep c fa fb g g', dma54_indep c fa fb g g', dma59_indep c fa fb g g', dma64_indep c fa fb g g', dma69_indep c fa fb g g', dma74_indep c fa fb g g']

end Cert.KernelIdeal.Hand
end
-- ==== Proof.Run.lean ====
module

public import proofs.«01_k».proof.Proof.Pieces

@[expose] public section

/-! The launch: the whole program from any memory ends with its arguments unchanged, every semaphore at zero and the result
array at `outOf`, the ten bands written by the run of the body. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers as the region finds them. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The result array after the run. -/
def outOf (c : Dev nD) : BufOf (F := F) c oH :=
  oH.view.writes (Elt F) (V m c main_v0) ((bodyRun c (V m c main_arg0) (V m c main_arg1)).1 oV.view.junk)

/-- The contents of the written buffer after the region. -/
def G (c : Dev nD) : (b : Ref sig .tc) → Buf (Elt F) ((c : Thread nD τ).loc b) := Function.update (V m c) main_v0 (outOf m c)

/-- The body's seventeen DMA cells. -/
abbrev osem0 : Fin 17 → SemLoc sig := fun j =>
  (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16] : Fin 17 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7, 8, 9, 10, 11, 12, 13, 14, 15, 16] (by decide) (by decide)]; rfl

/-- The buffers the body's transfers read, and the one they write. -/
def H0 : Finset (Ref sig .tc) := {main_arg0, main_arg1}
def R0 : Finset (Ref sig .tc) := {main_v0}
theorem H0_sub : H0 ⊆ Pipeline.restRefs sig cfg0.spec := by decide
theorem R0_sub : R0 ⊆ Pipeline.restRefs sig cfg0.spec \ H0 := by decide

/-- The invariant of the region with the result at `X`. -/
theorem inv_eq (c : Dev nD) (W : (c : Dev nD) → (b : Ref sig .tc) → Buf (Elt F) ((c : Thread nD τ).loc b)) :
    (Pipeline.ΦDRG osem0 cfg0.spec H0 R0 (V m) W c : sProp 𝕄)
      = iprop(((∃ f, pt c aV f) ∗ (∃ f, pt c bV f) ∗ (∃ f, pt c bf f) ∗ (∃ f, pt c b2 f) ∗ (∃ f, pt c oV f))
          ∗ (∃ r, prngReg c r) ∗ cells c ∗ (pt c aH (V m c main_arg0) ∗ pt c bH (V m c main_arg1)) ∗ pt c oH (W c main_v0)) := by
  rw [Pipeline.ΦDRG_eq, scopedRest0_eq, ownSems00_eq]
  unfold Pipeline.routed
  rw [BI.bigSep_eq_bigSepL_of_eq (S := H0) [main_arg0, main_arg1] (by decide) (by decide),
    BI.bigSep_eq_bigSepL_of_eq (S := R0) [main_v0] (by decide) (by decide)]
  rfl

/-- The invariant before the body (0) and after it. -/
def inv (c : Dev nD) : ℕ → sProp 𝕄
  | 0 => Pipeline.ΦDRG osem0 cfg0.spec H0 R0 (V m) (V m) c
  | _ + 1 => Pipeline.ΦDRG osem0 cfg0.spec H0 R0 (V m) (G m) c

/-- The proof data of the region: no window; the invariant before the body and after it. -/
def dats (_ : Fin 1) (c : Dev nD) : Dat τ (Elt F) Unit ℕ (Pipeline.UD sig nD τ) ℕ cfg0 c where
  A w := V m c (Pipeline.arrRef cfg0.spec w)
  after w t := w.elim0
  Φ t := inv m c t.val
  q _ := fullShare
  owed _ := 0

theorem A_eq (c : Dev nD) (w : Fin cfg0.W) : (dats m 0 c).A w = V m c (Pipeline.arrRef cfg0.spec w) := w.elim0

theorem inv_first (c : Dev nD) : (dats m 0 c).Φ 0 = Pipeline.ΦDRG osem0 cfg0.spec H0 R0 (V m) (V m) c := rfl
theorem inv_last (c : Dev nD) : (dats m 0 c).Φ (Fin.last cfg0.N) = Pipeline.ΦDRG osem0 cfg0.spec H0 R0 (V m) (G m) c := rfl

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) :
    bodyPre m c t0_0 ⊢ wp frame (wpE (defs₀ (F := F)) Variants.none (c : Thread nD τ) none) Set.univ (bodyAt0 t0_0) (fun _ => bodyPost m c t0_0) := by
  unfold bodyPre bodyPost
  rw [show (dats m 0 c).Φ t0_0.succ = Pipeline.ΦDRG osem0 cfg0.spec H0 R0 (V m) (G m) c from rfl,
    show (dats m 0 c).Φ t0_0.castSucc = Pipeline.ΦDRG osem0 cfg0.spec H0 R0 (V m) (V m) c from rfl, inv_eq, inv_eq]
  unfold Dat.owesAt Pipeline.owesWithin
  rw [show (dats m 0 c).owed t0_0.castSucc = 0 from rfl, show (dats m 0 c).owed t0_0.succ = 0 from rfl]
  iintro ⟨⟨⟨⟨%ga, Hav⟩, ⟨%gb, Hbv⟩, ⟨%gf, Hbf⟩, ⟨%g2, Hb2⟩, ⟨%go, Hov⟩⟩, Hg, Hc, ⟨Ha, Hb⟩, Ho⟩, ⟨%W, -, HW⟩⟩
  iapply ((bodyRun c (V m c main_arg0) (V m c main_arg1)).2 (V m c main_v0) ga gb gf g2 go W _)
  isplitl [Ha]; · iexact Ha
  isplitl [Hb]; · iexact Hb
  isplitl [Ho]; · iexact Ho
  isplitl [Hav]; · iexact Hav
  isplitl [Hbv]; · iexact Hbv
  isplitl [Hbf]; · iexact Hbf
  isplitl [Hb2]; · iexact Hb2
  isplitl [Hov]; · iexact Hov
  isplitl [Hc]; · iexact Hc
  isplitl [HW]; · iexact HW
  rw [pieces_indep c (V m c main_arg0) (V m c main_arg1) go oV.view.junk]
  iintro ⟨Ha, Hb, Ho, Hav, Hbv, Hbf, Hb2, Hov, Hc, ⟨%W', HW'⟩⟩
  isplitr [HW']
  · isplitl [Hav Hbv Hbf Hb2 Hov]
    · isplitl [Hav]; · iexact Hav
      isplitl [Hbv]; · iexact Hbv
      isplitl [Hbf]; · iexact Hbf
      isplitl [Hb2]; · iexact Hb2
      iexact Hov
    isplitl [Hg]; · iexact Hg
    isplitl [Hc]; · iexact Hc
    isplitl [Ha Hb]
    · isplitl [Ha]; · iexact Ha
      iexact Hb
    rw [show G m c main_v0 = outOf m c from Function.update_self ..]
    unfold outOf
    iexact Ho
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  obtain rfl := fin_N0 t
  rw [defs₀_row, show (Finset.univ : Finset (Fin cfg0.W)) = ∅ from rfl, BI.bigSep_empty, BI.bigSep_empty]
  refine triple_restated (sound_body m c) rfl ?_ fun _ => ?_
  · unfold bodyPre
    iintro ⟨HΦ, HW, -⟩
    isplitl [HΦ]; · iexact HΦ
    iexact HW
  · unfold bodyPost
    iintro ⟨HΦ, HW⟩
    isplitl [HΦ]; · iexact HΦ
    isplitl [HW]; · iexact HW
    iempintro

set_option backward.isDefEq.respectTransparency.types false in
/-- Every run ends with the result at `outOf`, the other buffers unchanged and every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun c => (inv_first m c).symm ▸ .rfl) (hout := fun c => (inv_last m c) ▸ .rfl)

/-- The program's run, read at its arguments and its result. -/
theorem run_post : θ_run defs (onTc (τ := τ) (main (F := F))) ⟨m, fun _ => 0, ρ⟩ (fun r => (∀ c : Dev nD,
      r.2.mem ((c.tc : Thread nD τ).loc main_v0) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.written c (by decide)).trans (Function.update_self ..),
      ((h.1.toR c).2 main_arg0 (Finset.mem_sdiff.mpr ⟨Pipeline.mem_restRefs_of main_arg0 (by decide) (by decide), by decide⟩)),
      ((h.1.toR c).2 main_arg1 (Finset.mem_sdiff.mpr ⟨Pipeline.mem_restRefs_of main_arg1 (by decide) (by decide), by decide⟩)),
      ((h.1.toR c).2 main_arg2 (Finset.mem_sdiff.mpr ⟨Pipeline.mem_restRefs_of main_arg2 (by decide) (by decide), by decide⟩))⟩, h.2⟩)
    (run_main m ρ)

/-- The same, of the arguments and the semaphores only. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_post m ρ)

end Cert.KernelIdeal.Hand
end
-- ==== Proof.Same.lean ====
/-
  The kernel as written and the kernel the other claims are about are one text: nothing in it was replaced. So the run proved
  for the one, at any kind of float values, is the run of the other; here at the machine's own.
-/
module

public import proofs.«01_k».proof.Proof.Run
public import proofs.«01_k».proof.Proof.Gen.Kernel
public import Idealize.ShloMosaic.PureOps.BitExact

@[expose] public section

noncomputable section

namespace Cert.Kernel.Hand

open Idealize.ShloMosaic Idealize.ShloMosaic.TcCoe Idealize.SL.Sem
open Cert.Kernel Cert.Kernel.Gen

variable {F : FTy → Type} [FloatOps F]

/-- The two main functions are one, -/
theorem main_same (c : Dev nD) : main (F := F) c = Cert.KernelIdeal.main (F := F) c := rfl

/-- and the two bodies. -/
theorem defs_same : defs (F := F) = Cert.KernelIdeal.defs (F := F) := rfl

/-- So the kernel's run leaves its arguments and every semaphore as they were. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Cert.KernelIdeal.Hand.run_frame (F := F) m ρ

end Cert.Kernel.Hand
end
-- ==== Proof.Block.lean ====
/-
  What ONE block of the kernel computes, at the ideal values.

  The kernel's text holds the same few lines fourteen times: four times for the first band of rows (once per chunk of
  1024 targets, as the chunks arrive) and once for each of the nine other bands. They differ in their number of source
  rows (256 or 512) and of target rows (1024 or 4096) only. `block M N` is that text at any two numbers of rows, every
  printed copy is it by definition, and `block_apply` reads its element once for all of them.
-/
module

public import proofs.«01_k».proof.Proof.Gen.KernelIdeal.Skeleton
public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.IdealHost
public import Idealize.ShloMosaic.PureOps.Ideal.Laws

@[expose] public section

noncomputable section

namespace Cert.KernelIdeal.Hand

open Idealize.ShloMosaic Idealize.ShloMosaic.ValueIdx
open Cert.KernelIdeal Cert.KernelIdeal.Gen

/-- The kernel's floor under the squared distance, `1e-30` as the f32 word it is printed as. -/
def floorVal : EReal := Ideal.ofBits .f32 0x0DA24260#32

/-- The factor the source rows are scaled by, `-2`. -/
def negTwo : EReal := Ideal.ofBits .f32 0xC0000000#32

/-- The squared distance the kernel forms of a source row `x` and a target row `y` — the two norms, plus the product of the scaled source row with the target row —
    raised to the floor. -/
def kd2 (x y : Fin 256 → EReal) : EReal :=
  max (((∑ k, x k * x k) + ∑ k, y k * y k) + ∑ k, (negTwo * x k) * y k) floorVal

/-- One element of the kernel's result: the raised squared distance times its reciprocal square root. -/
def kval (x y : Fin 256 → EReal) : EReal := kd2 x y * Ideal.rsqrt (kd2 x y)

/-- The text of one block: `M` source rows `x` against `N` target rows `c` (already bf16) of norms `b2`. -/
def block {F : FTy → Type} [FloatOps F] (M N : ℕ)
    (hr : (⟨2, ![M, 256]⟩ : Shape).Reduces [1] ⟨1, ![M]⟩) (hc : (⟨1, ![M]⟩ : Shape).ShapeCasts ⟨2, ![M, 1]⟩)
    (h1 : (⟨2, ![M, 1]⟩ : Shape).Broadcasts ⟨2, ![M, N]⟩) (h2 : (⟨2, ![1, N]⟩ : Shape).Broadcasts ⟨2, ![M, N]⟩)
    (hs : (⟨2, ![M, N]⟩ : Shape).ShapeCasts ⟨3, ![1, M, N]⟩)
    (x : FVec F ⟨2, ![M, 256]⟩ .f32) (c : FVec F ⟨2, ![N, 256]⟩ .bf16) (b2 : FVec F ⟨2, ![1, N]⟩ .f32) :
    FVec F ⟨3, ![1, M, N]⟩ .f32 :=
  have mxu : FVec F ⟨2, ![M, N]⟩ .f32 := matmul (DotDims.transposedRhs M 256 N) none
    (truncf .bf16 (mulf (broadcast ⟨2, ![M, 256]⟩ (Scalar.ofBits .f32 0xC0000000#32 : F .f32)) x) bitsLt_bf16_f32) c
    (constant ⟨2, ![M, N]⟩ .f32 0x00000000#32)
  have a2 : FVec F ⟨2, ![M, 1]⟩ .f32 :=
    shapeCast ⟨2, ![M, 1]⟩ (multiReduction .add [1] ⟨1, ![M]⟩ (mulf x x) 0x00000000#32 hr (.inl rfl) rfl) hc
  have d2 : FVec F ⟨2, ![M, N]⟩ .f32 :=
    maximumf (addf (addf (broadcastTo ⟨2, ![M, N]⟩ a2 h1) (broadcastTo ⟨2, ![M, N]⟩ b2 h2)) mxu)
      (broadcast ⟨2, ![M, N]⟩ (Scalar.ofBits .f32 0x0DA24260#32 : F .f32))
  shapeCast ⟨3, ![1, M, N]⟩ (mulf d2 (rsqrt d2)) hs

/-- The norms of a chunk of targets: the ones row times the squared chunk, on the matrix unit. -/
def norms {F : FTy → Type} [FloatOps F] (c : FVec F S1024x256 .bf16) : FVec F S1x1024 .f32 :=
  matmul (DotDims.transposedRhs 1 256 1024) none (broadcast S1x256 (Scalar.ofBits .bf16 0x3F80#16 : F .bf16)) (mulf c c)
    (constant S1x1024 .f32 0x00000000#32)

/-- The zero accumulator of a product is the number zero. -/
theorem zeroAcc {s : Shape} (i : s.Idx) : constant (F := Ideal) s .f32 0x00000000#32 i = 0 := by
  rw [constant_apply]
  simp [Ideal.ofBits, Ideal.ieee, -EReal.coe_mul]

/-- A column broadcast along the rows reads its row's one element. -/
theorem broadcastCol_apply {M N : ℕ} (v : (⟨2, ![M, 1]⟩ : Shape).Idx → EReal) (h : (⟨2, ![M, 1]⟩ : Shape).Broadcasts ⟨2, ![M, N]⟩)
    (i : Fin M) (j : Fin N) : broadcastTo ⟨2, ![M, N]⟩ v h (ix2 i j) = v (ix2 i 0) :=
  broadcastTo_apply v h _ _ fun ax => match ax with
    | ⟨0, _⟩ => by
      show i.val = if M = 1 then 0 else i.val
      split
      · have := i.isLt; omega
      · rfl
    | ⟨1, _⟩ => rfl

/-- A source row's norm, summed along the lanes and kept as a column. -/
theorem rowNorm_apply {M : ℕ} (hr : (⟨2, ![M, 256]⟩ : Shape).Reduces [1] ⟨1, ![M]⟩) (hc : (⟨1, ![M]⟩ : Shape).ShapeCasts ⟨2, ![M, 1]⟩)
    (v : FVec Ideal ⟨2, ![M, 256]⟩ .f32) (i : Fin M) :
    shapeCast ⟨2, ![M, 1]⟩ (multiReduction .add [1] ⟨1, ![M]⟩ v 0x00000000#32 hr (.inl rfl) rfl) hc (ix2 i 0)
      = ∑ k : Fin 256, v (ix2 i k) := by
  refine (shapeCast_a_a1_apply _ hc i 0).trans ((Ideal.multiReduction_add_single v _ hr (.inl rfl) rfl (ix1 i)).trans ?_)
  exact Finset.sum_congr rfl fun k _ => congrArg v (funext fun a => Fin.ext (match a with | ⟨0, _⟩ => rfl | ⟨1, _⟩ => rfl))

/-- An element of a block whose target norms are the targets' sums of squares is the kernel's value of the two rows. -/
theorem block_apply (M N : ℕ) (hr hc h1 h2 hs) (x : FVec Ideal ⟨2, ![M, 256]⟩ .f32) (c : FVec Ideal ⟨2, ![N, 256]⟩ .bf16)
    (b2 : FVec Ideal ⟨2, ![1, N]⟩ .f32) (i : Fin M) (j : Fin N)
    (hb : b2 (ix2 0 j) = ∑ k : Fin 256, c (ix2 j k) * c (ix2 j k)) :
    block M N hr hc h1 h2 hs x c b2 (ix3 0 i j) = kval (fun k => x (ix2 i k)) (fun k => c (ix2 j k)) := by
  unfold block
  rw [shapeCast_ab_1ab_apply, mulf_apply]
  refine congrArg (fun d => d * Ideal.rsqrt d) ?_
  rw [maximumf_apply, addf_apply, addf_apply, broadcastCol_apply, broadcastTo_1b_ab_apply, rowNorm_apply, hb]
  refine congrArg₂ max (congrArg₂ (· + ·) rfl ?_) rfl
  refine (Ideal.matmul_transposedRhs_apply _ _ _ _ i j).trans ?_
  rw [zeroAcc, zero_add]
  rfl

/-- The norm of target `j` of a chunk: its weights are the number one. -/
theorem norms_apply (c : FVec Ideal S1024x256 .bf16) (j : Fin 1024) :
    norms c (ix2 0 j) = ∑ k : Fin 256, c (ix2 j k) * c (ix2 j k) := by
  unfold norms
  refine (Ideal.matmul_transposedRhs_apply _ _ _ _ 0 j).trans ?_
  rw [zeroAcc, zero_add]
  refine Finset.sum_congr rfl fun k _ => ?_
  exact (congrArg (· * (c (ix2 j k) * c (ix2 j k))) Ideal.ofBits_one_bf16).trans (one_mul _)

section Copies
variable {F : FTy → Type} [FloatOps F]

/-- A band of 256 rows against all targets. -/
abbrev band256 (x : FVec F S256x256 .f32) (c : FVec F S4096x256 .bf16) (b2 : FVec F S1x4096 .f32) : FVec F S1x256x4096 .f32 :=
  block 256 4096 reduces_S256x256_S256 shapeCasts_S256_S256x1 broadcasts_S256x1_S256x4096 broadcasts_S1x4096_S256x4096
    shapeCasts_S256x4096_S1x256x4096 x c b2

/-- A band of 512 rows against all targets. -/
abbrev band512 (x : FVec F S512x256 .f32) (c : FVec F S4096x256 .bf16) (b2 : FVec F S1x4096 .f32) : FVec F S1x512x4096 .f32 :=
  block 512 4096 reduces_S512x256_S512 shapeCasts_S512_S512x1 broadcasts_S512x1_S512x4096 broadcasts_S1x4096_S512x4096
    shapeCasts_S512x4096_S1x512x4096 x c b2

/-- The first band of 256 rows against one chunk `b` of 1024 targets, cast and with its norms taken on the spot. -/
abbrev chunk256 (x : FVec F S256x256 .f32) (b : FVec F S1024x256 .f32) : FVec F S1x256x1024 .f32 :=
  block 256 1024 reduces_S256x256_S256 shapeCasts_S256_S256x1 broadcasts_S256x1_S256x1024 broadcasts_S1x1024_S256x1024
    shapeCasts_S256x1024_S1x256x1024 x (truncf .bf16 b bitsLt_bf16_f32) (norms (truncf .bf16 b bitsLt_bf16_f32))

theorem pay25_eq : (k0_pay25 (F := F)) = band256 := rfl
theorem pay37_eq : (k0_pay37 (F := F)) = band256 := rfl
theorem pay38_eq : (k0_pay38 (F := F)) = band256 := rfl
theorem pay26_eq : (k0_pay26 (F := F)) = band512 := rfl
theorem pay27_eq : (k0_pay27 (F := F)) = band512 := rfl
theorem pay29_eq (x c b2) : k0_pay29 (k0_pay28 (F := F) x c b2) = band512 x c b2 := rfl
theorem pay31_eq (x c b2) : k0_pay31 (k0_pay30 (F := F) x c b2) = band512 x c b2 := rfl
theorem pay34_eq (x c b2) : k0_pay34 (k0_pay32 (F := F) x) (k0_pay33 x) c b2 = band512 x c b2 := rfl
theorem pay36_eq (x c b2) : k0_pay36 (F := F) x (k0_pay35 x) c b2 = band512 x c b2 := rfl

theorem pay8_eq (x b) : k0_pay8 (F := F) k0_pay1 (k0_pay2 x) (k0_pay3 x) (k0_pay4 b) = chunk256 x b := rfl
theorem pay13_eq (x b) : k0_pay13 (F := F) (k0_pay2 x) (k0_pay3 x) (k0_pay9 b) (k0_pay11 k0_pay1 b)
    (constant S256x1024 .f32 0x00000000#32) = chunk256 x b := rfl
theorem pay19_eq (x b) : k0_pay19 (k0_pay18 (F := F) k0_pay1 (k0_pay2 x) (k0_pay3 x) b) = chunk256 x b := rfl
theorem pay24_eq (x b) : k0_pay24 (F := F) k0_pay1 (k0_pay2 x) (k0_pay3 x) b = chunk256 x b := rfl

end Copies

end Cert.KernelIdeal.Hand
end
-- ==== Proof.Loads.lean ====
/-
  What the body's loads hold. The source rows are staged by ten transfers into `aV`, the target rows by four into `bV`;
  the targets' bf16 copy `bf` and their norms `b2` are stored chunk by chunk. Each of these lists of writes agrees with
  one function of the index, so a load they cover reads that function.
-/
module

public import proofs.«01_k».proof.Proof.Body
public import proofs.«01_k».proof.Proof.Block
public import Idealize.ShloMosaic.Lib.Pipeline.ReadBack
public import Idealize.ShloMosaic.Lib.Pipeline.Value
public import Idealize.ShloMosaic.Lib.Pipeline.ValueKit.Geometry

@[expose] public section

noncomputable section

namespace Cert.KernelIdeal.Hand

open Idealize.ShloMosaic Idealize.ShloMosaic.TcCoe Idealize.ShloMosaic.ValueIdx Idealize.SL.Sem
open Cert.KernelIdeal Cert.KernelIdeal.Gen

/-- A load covered by writes that all agree with `G` reads `G`. -/
theorem load_of_pieces {Val : EltTy → Type} [∀ e, Nonempty (Val e)] {sig : RefSig} {κ : Kind} {sp : Space} {s : Shape} {e : EltTy}
    (v : View sig κ sp s e) (G : s.Idx → Val e) (L : List (View.Piece Val s e)) (h : View.PiecesOf G L) (B : LoadRect s)
    (t : LoadRect.Cov) (ht : LoadRect.covChk (L.map Sigma.fst) B t = true) : v.readCov L B = fun j => G (B.idx j) := by
  rw [View.readCov_eq_canon']
  exact funext fun j => View.canon_apply_of_pieces G L h.mem _ (LoadRect.cover_of_covChk _ _ t ht j)

/-- A rectangle of whole rows starts at its row. -/
theorem emb_rows {N M W : ℕ} (o : ℕ) (h : ∀ a, (![o, 0] : Fin 2 → ℕ) a + (⟨2, ![M, W]⟩ : Shape).size a ≤ (⟨2, ![N, W]⟩ : Shape).size a)
    (i : Fin M) (k : Fin W) (hi : o + i.val < N) :
    (Rect.unit (s := ⟨2, ![N, W]⟩) ![o, 0] (⟨2, ![M, W]⟩ : Shape).size h).emb (ix2 i k) = ix2 ⟨o + i.val, hi⟩ k :=
  funext fun a => Fin.ext (match a with
    | ⟨0, _⟩ => ValueKit.rect_emb_unit_val _ _ _ _ _
    | ⟨1, _⟩ => (ValueKit.rect_emb_unit_val _ _ _ _ _).trans (Nat.zero_add _))

section Loads
variable {F : FTy → Type} [FloatOps F] (c : Dev nD) (fa : BufOf (F := F) c aH) (fb : BufOf (F := F) c bH)

/-- The writes that staged the source rows. -/
abbrev aPieces : List (View.Piece (Elt F) S4096x256 .f32) :=
  [⟨Rect.unit ![3840, 0] S256x256.size (by decide), bodyRun.sl.dma0_13 c fa⟩, ⟨Rect.unit ![3584, 0] S256x256.size (by decide), bodyRun.sl.dma0_12 c fa⟩,
   ⟨Rect.unit ![3072, 0] S512x256.size (by decide), bodyRun.sl.dma0_11 c fa⟩, ⟨Rect.unit ![2560, 0] S512x256.size (by decide), bodyRun.sl.dma0_10 c fa⟩,
   ⟨Rect.unit ![2048, 0] S512x256.size (by decide), bodyRun.sl.dma0_9 c fa⟩, ⟨Rect.unit ![1536, 0] S512x256.size (by decide), bodyRun.sl.dma0_8 c fa⟩,
   ⟨Rect.unit ![1024, 0] S512x256.size (by decide), bodyRun.sl.dma0_7 c fa⟩, ⟨Rect.unit ![512, 0] S512x256.size (by decide), bodyRun.sl.dma0_6 c fa⟩,
   ⟨Rect.unit ![256, 0] S256x256.size (by decide), bodyRun.sl.dma0_5 c fa⟩, ⟨Rect.unit ![0, 0] S256x256.size (by decide), bodyRun.sl.dma0 c fa⟩]

/-- The writes that staged the target rows. -/
abbrev bPieces : List (View.Piece (Elt F) S4096x256 .f32) :=
  [⟨Rect.unit ![3072, 0] S1024x256.size (by decide), bodyRun.sl.dma0_4 c fb⟩, ⟨Rect.unit ![2048, 0] S1024x256.size (by decide), bodyRun.sl.dma0_3 c fb⟩,
   ⟨Rect.unit ![1024, 0] S1024x256.size (by decide), bodyRun.sl.dma0_2 c fb⟩, ⟨Rect.unit ![0, 0] S1024x256.size (by decide), bodyRun.sl.dma0_1 c fb⟩]

/-- Each staged the source's rows of its own place. -/
theorem aPieces_of : View.PiecesOf (Val := Elt F) (e := .f32) fa (aPieces c fa) :=
  ⟨fun _ => rfl, fun _ => rfl, fun _ => rfl, fun _ => rfl, fun _ => rfl, fun _ => rfl, fun _ => rfl, fun _ => rfl, fun _ => rfl, fun _ => rfl, trivial⟩

/-- Each staged the targets' rows of its own place. -/
theorem bPieces_of : View.PiecesOf (Val := Elt F) (e := .f32) fb (bPieces c fb) :=
  ⟨fun _ => rfl, fun _ => rfl, fun _ => rfl, fun _ => rfl, trivial⟩

/-- A load of `M` whole staged source rows from row `o` on holds those rows of the source. -/
def HoldsA {M : ℕ} (o : ℕ) (x : (⟨2, ![M, 256]⟩ : Shape).Idx → Elt F .f32) : Prop :=
  ∀ (i : Fin M) (k : Fin 256) (h : o + i.val < 4096), x (ix2 i k) = fa (ix2 ⟨o + i.val, h⟩ k)

theorem holdsA_of {M : ℕ} (o : ℕ) (h : ∀ a, (![o, 0] : Fin 2 → ℕ) a + (⟨2, ![M, 256]⟩ : Shape).size a ≤ S4096x256.size a) (t : LoadRect.Cov)
    (ht : LoadRect.covChk ((aPieces c fa).map Sigma.fst) (Rect.unit (s := S4096x256) ![o, 0] (⟨2, ![M, 256]⟩ : Shape).size h).toLoadRect t = true) :
    HoldsA c fa o (aV.view.readCov (aPieces c fa) (Rect.unit (s := S4096x256) ![o, 0] (⟨2, ![M, 256]⟩ : Shape).size h).toLoadRect) :=
  fun i k hi => (congrFun (load_of_pieces aV.view fa _ (aPieces_of c fa) _ t ht) (ix2 i k)).trans
    (congrArg fa (emb_rows o h i k hi))

theorem holds_v61 : HoldsA c fa 0 (bodyRun.sl.v61 c fa) := holdsA_of c fa 0 _ (.leaf 9) rfl
theorem holds_v181 : HoldsA c fa 256 (bodyRun.sl.v181 c fa) := holdsA_of c fa 256 _ (.leaf 8) rfl
theorem holds_v211 : HoldsA c fa 512 (bodyRun.sl.v211 c fa) := holdsA_of c fa 512 _ (.leaf 7) rfl
theorem holds_v246 : HoldsA c fa 1024 (bodyRun.sl.v246 c fa) := holdsA_of c fa 1024 _ (.leaf 6) rfl
theorem holds_v281 : HoldsA c fa 1536 (bodyRun.sl.v281 c fa) := holdsA_of c fa 1536 _ (.leaf 5) rfl
theorem holds_v316 : HoldsA c fa 2048 (bodyRun.sl.v316 c fa) := holdsA_of c fa 2048 _ (.leaf 4) rfl
theorem holds_v351 : HoldsA c fa 2560 (bodyRun.sl.v351 c fa) := holdsA_of c fa 2560 _ (.leaf 3) rfl
theorem holds_v386 : HoldsA c fa 3072 (bodyRun.sl.v386 c fa) := holdsA_of c fa 3072 _ (.leaf 2) rfl
theorem holds_v421 : HoldsA c fa 3584 (bodyRun.sl.v421 c fa) := holdsA_of c fa 3584 _ (.leaf 1) rfl
theorem holds_v456 : HoldsA c fa 3840 (bodyRun.sl.v456 c fa) := holdsA_of c fa 3840 _ (.leaf 0) rfl

/-- A load of one staged chunk of 1024 targets holds the targets of its rectangle. -/
theorem bLoad (B : LoadRect S4096x256) (t : LoadRect.Cov) (ht : LoadRect.covChk ((bPieces c fb).map Sigma.fst) B t = true) :
    bV.view.readCov (bPieces c fb) B = fun j => fb (B.idx j) :=
  load_of_pieces bV.view fb _ (bPieces_of c fb) B t ht

theorem v72_eq : bodyRun.sl.v72 c fb = fun j => fb ((Rect.unit (s := S4096x256) ![0, 0] S1024x256.size inb_S4096x256_S1024x256_0_0).emb j) :=
  bLoad c fb _ (.leaf 3) rfl
theorem v98_eq : bodyRun.sl.v98 c fb = fun j => fb ((Rect.unit (s := S4096x256) ![1024, 0] S1024x256.size inb_S4096x256_S1024x256_1024_0).emb j) :=
  bLoad c fb _ (.leaf 2) rfl
theorem v124_eq : bodyRun.sl.v124 c fb = fun j => fb ((Rect.unit (s := S4096x256) ![2048, 0] S1024x256.size inb_S4096x256_S1024x256_2048_0).emb j) :=
  bLoad c fb _ (.leaf 1) rfl
theorem v150_eq : bodyRun.sl.v150 c fb = fun j => fb ((Rect.unit (s := S4096x256) ![3072, 0] S1024x256.size inb_S4096x256_S1024x256_3072_0).emb j) :=
  bLoad c fb _ (.leaf 0) rfl

/-- The targets, cast. -/
def castB : S4096x256.Idx → Elt F .bf16 := fun y => FloatOps.truncf (F := F) (φ := .f32) .bf16 bitsLt_bf16_f32 (fb y)

/-- Each chunk stored its own targets cast. -/
theorem bfPieces_of : View.PiecesOf (Val := Elt F) (e := .bf16) (castB c fb) (bodyRun.sl.Hbf_4 c fb) := by
  refine ⟨fun x => ?_, fun x => ?_, fun x => ?_, fun x => ?_, trivial⟩
  · unfold k0_pay21; rw [v150_eq, shapeCast_self]; rfl
  · unfold k0_pay15; rw [v124_eq, shapeCast_self]; rfl
  · unfold k0_pay10; rw [v98_eq, shapeCast_self]; rfl
  · unfold k0_pay5 bodyRun.sl.r_2; rw [v72_eq, shapeCast_self]; rfl

theorem v188_eq : bodyRun.sl.v188 c fb = fun x => castB c fb ((Rect.unit (s := S4096x256) ![0, 0] S4096x256.size inb_S4096x256_S4096x256_0_0).emb x) :=
  load_of_pieces bf.view (castB c fb) (bodyRun.sl.Hbf_4 c fb) (bfPieces_of c fb) _
    (.split 0 1024 (.leaf 3) (.split 0 1024 (.leaf 2) (.split 0 1024 (.leaf 1) (.leaf 0)))) rfl

end Loads

section AtIdeal
variable (c : Dev nD) (fb : BufOf (F := Ideal) c bH)

/-- Row `i` of an array of 4096 points, as its 256 coordinates. -/
def row (f : S4096x256.Idx → EReal) (i : Fin 4096) : Fin 256 → EReal := fun k => f (ix2 i k)

/-- The targets' norms. -/
def normsB : S1x4096.Idx → EReal := fun y => ∑ k : Fin 256, row fb (y 1) k * row fb (y 1) k

/-- The norms of the chunk of targets from row `o` on are those targets' norms. -/
theorem norms_chunk (o : ℕ) (h : ∀ a, (![o, 0] : Fin 2 → ℕ) a + S1024x256.size a ≤ S4096x256.size a)
    (h' : ∀ a, (![0, o] : Fin 2 → ℕ) a + S1x1024.size a ≤ S1x4096.size a) (x : S1x1024.Idx) :
    norms (F := Ideal) (truncf .bf16 (fun j => fb ((Rect.unit (s := S4096x256) ![o, 0] S1024x256.size h).emb j) : FVec Ideal S1024x256 .f32) bitsLt_bf16_f32) x
      = normsB c fb ((Rect.unit (s := S1x4096) ![0, o] S1x1024.size h').emb x) := by
  obtain ⟨u, j, rfl⟩ : ∃ (u : Fin 1) (j : Fin 1024), x = ix2 u j := ⟨x 0, x 1, eq_ix2 x⟩
  obtain rfl : u = 0 := Subsingleton.elim _ _
  rw [norms_apply]
  refine Finset.sum_congr rfl fun k _ => ?_
  have ho : o + j.val < 4096 := by have := h' 1; have := j.isLt; simp at *; omega
  have e : fb ((Rect.unit (s := S4096x256) ![o, 0] S1024x256.size h).emb (ix2 j k))
      = row fb ((Rect.unit (s := S1x4096) ![0, o] S1x1024.size h').emb (ix2 0 j) 1) k := by
    unfold row
    rw [emb_rows o h j k ho]
    refine congrArg (fun r => fb (ix2 r k)) (Fin.ext ?_)
    exact (ValueKit.rect_emb_unit_val (s := S1x4096) ![0, o] S1x1024.size h' (ix2 0 j) 1).symm
  exact congrArg₂ (· * ·) e e

/-- Each chunk stored its own targets' norms. -/
theorem b2Pieces_of : View.PiecesOf (Val := Elt Ideal) (e := .f32) (normsB c fb) (bodyRun.sl.Hb2_4 c fb) := by
  refine ⟨fun x => ?_, fun x => ?_, fun x => ?_, fun x => ?_, trivial⟩
  · unfold k0_pay23; rw [v150_eq, shapeCast_self]; exact norms_chunk c fb 3072 inb_S4096x256_S1024x256_3072_0 inb_S1x4096_S1x1024_0_3072 x
  · unfold k0_pay17; rw [v124_eq, shapeCast_self]; exact norms_chunk c fb 2048 inb_S4096x256_S1024x256_2048_0 inb_S1x4096_S1x1024_0_2048 x
  · unfold k0_pay12; rw [v98_eq, shapeCast_self]; exact norms_chunk c fb 1024 inb_S4096x256_S1024x256_1024_0 inb_S1x4096_S1x1024_0_1024 x
  · unfold k0_pay7 bodyRun.sl.r_2; rw [v72_eq, shapeCast_self]; exact norms_chunk c fb 0 inb_S4096x256_S1024x256_0_0 inb_S1x4096_S1x1024_0_0 x

/-- So the norms, read whole, are the targets' norms, -/
theorem v190_eq : bodyRun.sl.v190 c fb = fun x => normsB c fb ((Rect.unit (s := S1x4096) ![0, 0] S1x4096.size inb_S1x4096_S1x4096_0_0).emb x) :=
  load_of_pieces (Val := Elt Ideal) (e := .f32) b2.view (normsB c fb) (bodyRun.sl.Hb2_4 c fb) (b2Pieces_of c fb)
    (Rect.unit (s := S1x4096) ![0, 0] S1x4096.size inb_S1x4096_S1x4096_0_0).toLoadRect
    (.split 1 1024 (.leaf 3) (.split 1 1024 (.leaf 2) (.split 1 1024 (.leaf 1) (.leaf 0)))) rfl

/-- at an index, -/
theorem v190_apply (j : Fin 4096) : bodyRun.sl.v190 c fb (ix2 0 j) = ∑ k : Fin 256, row fb j k * row fb j k := by
  rw [v190_eq]
  have e : (Rect.unit (s := S1x4096) ![0, 0] S1x4096.size inb_S1x4096_S1x4096_0_0).emb (ix2 0 j) 1 = j :=
    Fin.ext ((ValueKit.rect_emb_unit_val _ _ _ _ _).trans (Nat.zero_add _))
  exact congrArg (fun r => ∑ k : Fin 256, row fb r k * row fb r k) e

/-- and the cast targets, whose cast is the identity here, are the targets. -/
theorem v188_apply (j : Fin 4096) (k : Fin 256) : bodyRun.sl.v188 c fb (ix2 j k) = row fb j k := by
  rw [v188_eq]
  have e : (Rect.unit (s := S4096x256) ![0, 0] S4096x256.size inb_S4096x256_S4096x256_0_0).emb (ix2 j k) = ix2 j k :=
    (emb_rows 0 inb_S4096x256_S4096x256_0_0 j k (by have := j.isLt; omega)).trans
      (congrArg (fun r => ix2 r k) (Fin.ext (Nat.zero_add _)))
  exact congrArg fb e

end AtIdeal

end Cert.KernelIdeal.Hand
end
-- ==== Proof.Bands.lean ====
/-
  What each transfer to the result carries, and so what the result holds: a band of rows leaves the window of the staging
  ring it was stored into, so band by band the result is `dist`, the kernel's value of a source row and a target row.
-/
module

public import proofs.«01_k».proof.Proof.Loads
public import proofs.«01_k».proof.Proof.Run

@[expose] public section

noncomputable section

namespace Cert.KernelIdeal.Hand

open Idealize.ShloMosaic Idealize.ShloMosaic.TcCoe Idealize.ShloMosaic.ValueIdx Idealize.SL.Sem
open Cert.KernelIdeal Cert.KernelIdeal.Gen

/-- The result, index by index: the kernel's value of the source row and the target row it names. -/
def dist (fa fb : S4096x256.Idx → EReal) : S4096x4096.Idx → EReal := fun y => kval (row fa (y 0)) (row fb (y 1))

/-- A window of the ring read right after a store of the whole window reads that store's payload. -/
theorem window_top {F : FTy → Type} [FloatOps F] {s' : Shape} (r : Rect S3x512x4096) (hr : ∀ a, r.stride a = 1) (hq : r.shape.Squeezes s')
    (W : r.shape.Idx → Elt F .f32) (L : List (View.Piece (Elt F) S3x512x4096 .f32)) (g : oV.view.ty.Contents (Elt F)) (y : s'.Idx) :
    ((oV.slice r hr).squeeze s' hq).view.read (Elt F) (oV.view.writes (Elt F) g (⟨r, W⟩ :: L)) y = W (Shape.reshapeEquiv hq.numel_eq y) :=
  View.read_writes_cons_emb oV.view g r W L (Shape.reshapeEquiv hq.numel_eq y)

section AtIdeal
variable (c : Dev nD) (fa : BufOf (F := Ideal) c aH) (fb : BufOf (F := Ideal) c bH)

/-- A band of `M` source rows from row `o` on, against all targets, is that band of `dist`. -/
theorem block_dist {M : ℕ} (o : ℕ) (hr hc h1 h2 hs) (x : FVec Ideal ⟨2, ![M, 256]⟩ .f32) (hx : HoldsA c fa o x)
    (hn : (⟨2, ![M, 4096]⟩ : Shape).numel = (⟨3, ![1, M, 4096]⟩ : Shape).numel)
    (h : ∀ a, (![o, 0] : Fin 2 → ℕ) a + (⟨2, ![M, 4096]⟩ : Shape).size a ≤ S4096x4096.size a) (y : (⟨2, ![M, 4096]⟩ : Shape).Idx) :
    block M 4096 hr hc h1 h2 hs x (bodyRun.sl.v188 c fb) (bodyRun.sl.v190 c fb) (Shape.reshapeEquiv hn y)
      = dist fa fb ((Rect.unit (s := S4096x4096) ![o, 0] (⟨2, ![M, 4096]⟩ : Shape).size h).emb y) := by
  obtain ⟨i, j, rfl⟩ : ∃ (i : Fin M) (j : Fin 4096), y = ix2 i j := ⟨y 0, y 1, eq_ix2 y⟩
  have ho : o + i.val < 4096 := lt_of_lt_of_le (Nat.add_lt_add_left i.isLt o) (h 0)
  rw [reshapeEquiv_ix2_1ab, emb_rows o h i j ho]
  refine (block_apply M 4096 hr hc h1 h2 hs x _ _ i j ?_).trans ?_
  · rw [v190_apply]
    exact Finset.sum_congr rfl fun k _ => (congrArg₂ (· * ·) (v188_apply c fb j k) (v188_apply c fb j k)).symm
  · exact congrArg₂ kval (funext fun k => hx i k ho) (funext fun k => v188_apply c fb j k)

/-- The ring's first buffer once the first band is stored: row by row the kernel's values. -/
def ring (fa fb : S4096x256.Idx → EReal) : S3x512x4096.Idx → EReal :=
  fun z => kval (row fa ⟨(z 1).val, lt_of_lt_of_le (z 1).isLt (by decide)⟩) (row fb (z 2))

/-- The first band's store of the chunk of targets from row `o` on. -/
theorem chunk_ring (o : ℕ) (h : ∀ a, (![o, 0] : Fin 2 → ℕ) a + S1024x256.size a ≤ S4096x256.size a)
    (h' : ∀ a, (![0, 0, o] : Fin 3 → ℕ) a + S1x256x1024.size a ≤ S3x512x4096.size a) (z : S1x256x1024.Idx) :
    chunk256 (F := Ideal) (bodyRun.sl.v61 c fa) (fun j => fb ((Rect.unit (s := S4096x256) ![o, 0] S1024x256.size h).emb j)) z
      = ring fa fb ((Rect.unit (s := S3x512x4096) ![0, 0, o] S1x256x1024.size h').emb z) := by
  obtain ⟨u, i, j, rfl⟩ : ∃ (u : Fin 1) (i : Fin 256) (j : Fin 1024), z = ix3 u i j := ⟨z 0, z 1, z 2, eq_ix3 z⟩
  obtain rfl : u = 0 := Subsingleton.elim _ _
  have ho : o + j.val < 4096 := lt_of_lt_of_le (Nat.add_lt_add_left j.isLt o) (h 0)
  refine (block_apply 256 1024 _ _ _ _ _ _ _ _ i j (norms_apply _ j)).trans ?_
  refine congrArg₂ kval (funext fun k => ?_) (funext fun k => ?_)
  · refine (holds_v61 c fa i k (by have := i.isLt; omega)).trans (congrArg (fun r => fa (ix2 r k)) (Fin.ext ?_))
    exact (ValueKit.rect_emb_unit_val (s := S3x512x4096) ![0, 0, o] S1x256x1024.size h' (ix3 0 i j) 1).symm
  · refine (congrArg fb (emb_rows o h j k ho)).trans (congrArg (fun r => fb (ix2 r k)) (Fin.ext ?_))
    exact (ValueKit.rect_emb_unit_val (s := S3x512x4096) ![0, 0, o] S1x256x1024.size h' (ix3 0 i j) 2).symm

/-- The four stores of the first band. -/
theorem band0_of : View.PiecesOf (Val := Elt Ideal) (e := .f32) (ring fa fb) (bodyRun.sl.Hov_4 c fa fb) := by
  refine ⟨fun z => ?_, fun z => ?_, fun z => ?_, fun z => ?_, trivial⟩
  · refine (congrFun (pay24_eq _ _) z).trans ?_
    rw [v150_eq]; exact chunk_ring c fa fb 3072 inb_S4096x256_S1024x256_3072_0 inb_S3x512x4096_S1x256x1024_0_0_3072 z
  · refine (congrFun (pay19_eq _ _) z).trans ?_
    rw [v124_eq]; exact chunk_ring c fa fb 2048 inb_S4096x256_S1024x256_2048_0 inb_S3x512x4096_S1x256x1024_0_0_2048 z
  · refine (congrFun (pay13_eq _ _) z).trans ?_
    rw [v98_eq]; exact chunk_ring c fa fb 1024 inb_S4096x256_S1024x256_1024_0 inb_S3x512x4096_S1x256x1024_0_0_1024 z
  · refine (congrFun (pay8_eq _ _) z).trans ?_
    rw [v72_eq]; exact chunk_ring c fa fb 0 inb_S4096x256_S1024x256_0_0 inb_S3x512x4096_S1x256x1024_0_0_0 z

variable (g : BufOf (F := Ideal) c oV)

/-- A transfer's payload is the band of `dist` from row `o` on. -/
def Carries {M : ℕ} (o : ℕ) (d : (⟨2, ![M, 4096]⟩ : Shape).Idx → EReal) : Prop :=
  ∀ (h : ∀ a, (![o, 0] : Fin 2 → ℕ) a + (⟨2, ![M, 4096]⟩ : Shape).size a ≤ S4096x4096.size a) (y : (⟨2, ![M, 4096]⟩ : Shape).Idx),
    d y = dist fa fb ((Rect.unit (s := S4096x4096) ![o, 0] (⟨2, ![M, 4096]⟩ : Shape).size h).emb y)

/-- The first band leaves from the ring's first buffer. -/
theorem carries29 : Carries c fa fb 0 (bodyRun.sl.dma29 c fa fb g) := fun h y => by
  refine (View.read_writes_apply_of_pieces oV.view g (ring fa fb) (bodyRun.sl.Hov_4 c fa fb) (band0_of c fa fb).mem
    ((Rect.unit (s := S3x512x4096) ![0, 0, 0] S1x256x4096.size inb_S3x512x4096_S1x256x4096_0_0_0).emb
      (Shape.reshapeEquiv squeezes_S1x256x4096_S256x4096.numel_eq y))
    (LoadRect.cover_of_covChk _ (Rect.unit (s := S3x512x4096) ![0, 0, 0] S1x256x4096.size inb_S3x512x4096_S1x256x4096_0_0_0).toLoadRect
      (.split 2 1024 (.leaf 3) (.split 2 1024 (.leaf 2) (.split 2 1024 (.leaf 1) (.leaf 0)))) (by rfl) _)).trans ?_
  obtain ⟨i, j, rfl⟩ : ∃ (i : Fin 256) (j : Fin 4096), y = ix2 i j := ⟨y 0, y 1, eq_ix2 y⟩
  rw [reshapeEquiv_ix2_1ab, emb_rows 0 h i j (by have := i.isLt; omega)]
  refine congrArg₂ kval (congrArg (row fa) (Fin.ext ?_)) (congrArg (row fb) (Fin.ext ?_))
  · exact ValueKit.rect_emb_unit_val (s := S3x512x4096) ![0, 0, 0] S1x256x4096.size inb_S3x512x4096_S1x256x4096_0_0_0 (ix3 0 i j) 1
  · exact (ValueKit.rect_emb_unit_val (s := S3x512x4096) ![0, 0, 0] S1x256x4096.size inb_S3x512x4096_S1x256x4096_0_0_0 (ix3 0 i j) 2).trans
      (Nat.zero_add _)

/-! The nine other bands, each stored whole just before it leaves. -/

theorem carries34 : Carries c fa fb 256 (bodyRun.sl.dma34 c fa fb g) := fun h y =>
  (window_top _ _ _ _ _ g y).trans (block_dist c fa fb 256 _ _ _ _ _ _ (holds_v181 c fa) _ h y)
theorem carries39 : Carries c fa fb 512 (bodyRun.sl.dma39 c fa fb g) := fun h y =>
  (window_top _ _ _ _ _ g y).trans (block_dist c fa fb 512 _ _ _ _ _ _ (holds_v211 c fa) _ h y)
theorem carries44 : Carries c fa fb 1024 (bodyRun.sl.dma44 c fa fb g) := fun h y =>
  (window_top _ _ _ _ _ g y).trans (block_dist c fa fb 1024 _ _ _ _ _ _ (holds_v246 c fa) _ h y)
theorem carries49 : Carries c fa fb 1536 (bodyRun.sl.dma49 c fa fb g) := fun h y =>
  (window_top _ _ _ _ _ g y).trans (block_dist c fa fb 1536 _ _ _ _ _ _ (holds_v281 c fa) _ h y)
theorem carries54 : Carries c fa fb 2048 (bodyRun.sl.dma54 c fa fb g) := fun h y =>
  (window_top _ _ _ _ _ g y).trans (block_dist c fa fb 2048 _ _ _ _ _ _ (holds_v316 c fa) _ h y)
theorem carries59 : Carries c fa fb 2560 (bodyRun.sl.dma59 c fa fb g) := fun h y =>
  (window_top _ _ _ _ _ g y).trans (block_dist c fa fb 2560 _ _ _ _ _ _ (holds_v351 c fa) _ h y)
theorem carries64 : Carries c fa fb 3072 (bodyRun.sl.dma64 c fa fb g) := fun h y =>
  (window_top _ _ _ _ _ g y).trans (block_dist c fa fb 3072 _ _ _ _ _ _ (holds_v386 c fa) _ h y)
theorem carries69 : Carries c fa fb 3584 (bodyRun.sl.dma69 c fa fb g) := fun h y =>
  (window_top _ _ _ _ _ g y).trans (block_dist c fa fb 3584 _ _ _ _ _ _ (holds_v421 c fa) _ h y)
theorem carries74 : Carries c fa fb 3840 (bodyRun.sl.dma74 c fa fb g) := fun h y =>
  (window_top _ _ _ _ _ g y).trans (block_dist c fa fb 3840 _ _ _ _ _ _ (holds_v456 c fa) _ h y)

/-- The ten transfers to the result, -/
def outPieces : List (View.Piece (Elt Ideal) S4096x4096 .f32) :=
  [⟨Rect.unit ![3840, 0] S256x4096.size (by decide), bodyRun.sl.dma74 c fa fb g⟩,
   ⟨Rect.unit ![3584, 0] S256x4096.size (by decide), bodyRun.sl.dma69 c fa fb g⟩,
   ⟨Rect.unit ![3072, 0] S512x4096.size (by decide), bodyRun.sl.dma64 c fa fb g⟩,
   ⟨Rect.unit ![2560, 0] S512x4096.size (by decide), bodyRun.sl.dma59 c fa fb g⟩,
   ⟨Rect.unit ![2048, 0] S512x4096.size (by decide), bodyRun.sl.dma54 c fa fb g⟩,
   ⟨Rect.unit ![1536, 0] S512x4096.size (by decide), bodyRun.sl.dma49 c fa fb g⟩,
   ⟨Rect.unit ![1024, 0] S512x4096.size (by decide), bodyRun.sl.dma44 c fa fb g⟩,
   ⟨Rect.unit ![512, 0] S512x4096.size (by decide), bodyRun.sl.dma39 c fa fb g⟩,
   ⟨Rect.unit ![256, 0] S256x4096.size (by decide), bodyRun.sl.dma34 c fa fb g⟩,
   ⟨Rect.unit ![0, 0] S256x4096.size (by decide), bodyRun.sl.dma29 c fa fb g⟩]

/-- which are the body's writes of it, -/
theorem outPieces_eq : (bodyRun c fa fb).1 g = outPieces c fa fb g := by
  simp only [bodyRun]
  rfl

/-- (one more band in front of others) -/
theorem bands_cons {M : ℕ} {o : ℕ} {d : (⟨2, ![M, 4096]⟩ : Shape).Idx → EReal} (hd : Carries c fa fb o d)
    (h : ∀ a, (![o, 0] : Fin 2 → ℕ) a + (⟨2, ![M, 4096]⟩ : Shape).size a ≤ S4096x4096.size a)
    {L : List (View.Piece (Elt Ideal) S4096x4096 .f32)} (hL : View.PiecesOf (Val := Elt Ideal) (e := .f32) (dist fa fb) L) :
    View.PiecesOf (Val := Elt Ideal) (e := .f32) (dist fa fb) (⟨Rect.unit (s := S4096x4096) ![o, 0] (⟨2, ![M, 4096]⟩ : Shape).size h, d⟩ :: L) :=
  ⟨hd h, hL⟩

/-- carry the ten bands of `dist`, -/
theorem outPieces_of : View.PiecesOf (Val := Elt Ideal) (e := .f32) (dist fa fb) (outPieces c fa fb g) := by
  unfold outPieces
  refine bands_cons c fa fb (carries74 c fa fb g) _ ?_
  refine bands_cons c fa fb (carries69 c fa fb g) _ ?_
  refine bands_cons c fa fb (carries64 c fa fb g) _ ?_
  refine bands_cons c fa fb (carries59 c fa fb g) _ ?_
  refine bands_cons c fa fb (carries54 c fa fb g) _ ?_
  refine bands_cons c fa fb (carries49 c fa fb g) _ ?_
  refine bands_cons c fa fb (carries44 c fa fb g) _ ?_
  refine bands_cons c fa fb (carries39 c fa fb g) _ ?_
  refine bands_cons c fa fb (carries34 c fa fb g) _ ?_
  refine bands_cons c fa fb (carries29 c fa fb g) _ ?_
  trivial

/-- and they cover it. -/
theorem outPieces_cover (y : S4096x4096.Idx) : ∃ p ∈ outPieces c fa fb g, y ∈ p.1.set := by
  have h := LoadRect.cover_of_covChk (outPieces c fa fb g) (LoadRect.whole S4096x4096)
    (.split 0 256 (.leaf 9) (.split 0 256 (.leaf 8) (.split 0 512 (.leaf 7) (.split 0 512 (.leaf 6) (.split 0 512 (.leaf 5)
      (.split 0 512 (.leaf 4) (.split 0 512 (.leaf 3) (.split 0 512 (.leaf 2) (.split 0 256 (.leaf 1) (.leaf 0)))))))))) (by rfl) y
  have e : (LoadRect.whole S4096x4096).idx y = y := funext fun a => Fin.ext
    ((ValueKit.rect_emb_unit_val (s := S4096x4096) (fun _ => 0) S4096x4096.size _ y a).trans (Nat.zero_add _))
  rwa [e] at h

/-- Writing pieces of an array that cover it over anything leaves the array. -/
theorem writes_of (w G : S4096x4096.Idx → EReal) (L : List (View.Piece (Elt Ideal) S4096x4096 .f32))
    (hL : View.PiecesOf (Val := Elt Ideal) (e := .f32) G L) (hc : ∀ y, ∃ p ∈ L, y ∈ p.1.set) : oH.view.writes (Elt Ideal) w L = G :=
  funext fun y => View.read_writes_apply_of_pieces (Val := Elt Ideal) (e := .f32) oH.view w G L hL.mem y (hc y)

/-- What the run leaves in the result: the kernel's values of the two arguments. -/
theorem outOf_eq (m : (ℓ : Loc nD τ sig) → Buf (Elt Ideal) ℓ) : outOf m c = dist (V m c main_arg0) (V m c main_arg1) :=
  (congrArg (oH.view.writes (Elt Ideal) (V m c main_v0)) (outPieces_eq c (V m c main_arg0) (V m c main_arg1) oV.view.junk)).trans
    (writes_of _ _ _ (outPieces_of c _ _ _) (outPieces_cover c _ _ _))

end AtIdeal

end Cert.KernelIdeal.Hand
end
-- ==== Proof.Equation.lean ====
/-
  The one equation between the two programs, on a source row `x` and a target row `y` of finite numbers.

  The reference forms `d = ∑ x² + ∑ y² - 2 ∑ x y`, raises it to 0 and takes the square root. The kernel scales the source
  row by -2 before the product, adds, raises to `1e-30` and multiplies by the reciprocal square root. Where `d` is at least
  `1e-30` neither raising changes it, and `d · (√d)⁻¹ = √d`.
-/
module

public import proofs.«01_k».proof.Proof.Block

@[expose] public section

noncomputable section

namespace Cert.KernelIdeal.Hand

open Idealize.ShloMosaic

/-- The squared distance as the reference expands it. -/
def rd2 (x y : Fin 256 → EReal) : EReal := ((∑ k, x k * x k) + ∑ k, y k * y k) - 2 * ∑ k, x k * y k

/-- The kernel's factor is the number -2. -/
theorem negTwo_eq : negTwo = ((-2 : ℝ) : EReal) := by
  simp [negTwo, Ideal.ofBits, Ideal.ieee, -EReal.coe_mul]
  norm_num

/-- The kernel's floor is above zero. -/
theorem floorVal_pos : 0 < floorVal := by
  simp [floorVal, Ideal.ofBits, Ideal.ieee, -EReal.coe_mul]

/-- A sum of real numbers, taken among the extended ones. -/
theorem coe_sum (f : Fin 256 → ℝ) : ∑ k, ((f k : ℝ) : EReal) = ((∑ k, f k : ℝ) : EReal) := by
  induction (Finset.univ : Finset (Fin 256)) using Finset.induction_on with
  | empty => simp
  | insert a s ha ih => rw [Finset.sum_insert ha, Finset.sum_insert ha, ih, EReal.coe_add]

section Reals
variable (x y : Fin 256 → ℝ)

/-- The squared distance of two real rows, expanded. -/
def realD2 : ℝ := ((∑ k, x k * x k) + ∑ k, y k * y k) - 2 * ∑ k, x k * y k

theorem rd2_real : rd2 (fun k => (x k : EReal)) (fun k => (y k : EReal)) = (realD2 x y : EReal) := by
  unfold rd2 realD2
  simp only [← EReal.coe_mul, coe_sum]
  rw [show (2 : EReal) = ((2 : ℝ) : EReal) from rfl]
  simp only [← EReal.coe_mul, ← EReal.coe_add, ← EReal.coe_sub]

theorem kd2_real : kd2 (fun k => (x k : EReal)) (fun k => (y k : EReal)) = max (realD2 x y : EReal) floorVal := by
  unfold kd2 realD2
  rw [negTwo_eq]
  simp only [← EReal.coe_mul, coe_sum, ← EReal.coe_add]
  congr 2
  rw [sub_eq_add_neg, ← neg_mul, Finset.mul_sum]
  simp only [mul_assoc]

end Reals

/-- A number times its reciprocal square root is its square root. -/
theorem mul_rsqrt (d : ℝ) (h : 0 < d) : (d : EReal) * Ideal.rsqrt (d : EReal) = Ideal.sqrt (d : EReal) := by
  rw [Ideal.rsqrt_coe, Ideal.sqrt_coe, if_neg (not_lt.2 h.le), if_neg h.ne', if_neg (not_lt.2 h.le), ← EReal.coe_mul]
  congr 1
  rw [← div_eq_mul_inv, Real.div_sqrt]

/-- The equation: rows of finite numbers at a squared distance of at least the floor. -/
theorem kval_eq (x y : Fin 256 → EReal) (hx : ∀ k, x k ≠ ⊤ ∧ x k ≠ ⊥) (hy : ∀ k, y k ≠ ⊤ ∧ y k ≠ ⊥)
    (h : floorVal ≤ rd2 x y) : kval x y = Ideal.sqrt (max (rd2 x y) 0) := by
  obtain ⟨x, rfl⟩ : ∃ r : Fin 256 → ℝ, x = fun k => (r k : EReal) :=
    ⟨fun k => (x k).toReal, funext fun k => (EReal.coe_toReal (hx k).1 (hx k).2).symm⟩
  obtain ⟨y, rfl⟩ : ∃ r : Fin 256 → ℝ, y = fun k => (r k : EReal) :=
    ⟨fun k => (y k).toReal, funext fun k => (EReal.coe_toReal (hy k).1 (hy k).2).symm⟩
  unfold kval
  rw [kd2_real]
  rw [rd2_real] at h ⊢
  have hp : (0 : EReal) < (realD2 x y : EReal) := floorVal_pos.trans_le h
  rw [max_eq_left h, max_eq_left hp.le]
  exact mul_rsqrt _ (by exact_mod_cast hp)

end Cert.KernelIdeal.Hand
end
-- ==== Proof.Refer.lean ====
/-
  The reference, read: its squared distance at row `i` of the sources and row `j` of the targets is `rd2` of the two rows,
  and its result is the square root of that raised to 0. With its run, every semaphore at zero.
-/
module

public import proofs.«01_k».proof.Proof.Gen.ReferenceIdeal.Read
public import proofs.«01_k».proof.Proof.Loads
public import proofs.«01_k».proof.Proof.Equation
public import Idealize.ShloMosaic.Lib.Quiescent

@[expose] public section

noncomputable section

namespace Cert.ReferenceIdeal.Hand

open Idealize.ShloMosaic Idealize.ShloMosaic.TcCoe Idealize.SL.Sem
open Cert.ReferenceIdeal Cert.ReferenceIdeal.Gen Cert.ReferenceIdeal.Read
open Cert.KernelIdeal.Hand (row rd2)

/-- The printed zero is the number 0, -/
theorem zero_word : (FloatOps.ofBits .f32 0x00000000#32 : Ideal .f32) = (0 : EReal) := by
  show Ideal.ofBits .f32 0x00000000#32 = 0
  simp [Ideal.ofBits, Ideal.ieee, -EReal.coe_mul]

/-- and the printed two the number 2. -/
theorem two_word : (FloatOps.ofBits .f32 0x40000000#32 : Ideal .f32) = (2 : EReal) := by
  show Ideal.ofBits .f32 0x40000000#32 = ((2 : ℝ) : EReal)
  simp [Ideal.ofBits, Ideal.ieee, -EReal.coe_mul]
  try norm_num

section Value
variable (fa fb : S4096x256.Idx → EReal)

/-- The reference's squared distance, element by element. -/
theorem d2_apply (i : S4096x4096.Idx) : val_main_v13 (F := Ideal) fa fb i = rd2 (row fa (i 0)) (row fb (i 1)) := by
  rw [val_main_v13_apply, val_main_v8_apply, val_main_v6_apply, val_main_v2_apply, val_main_v1_apply, val_main_v7_apply,
    val_main_v5_apply, val_main_v4_apply, val_main_v12_apply, val_main_v11_apply, val_main_v10_apply, val_main_cst_apply,
    val_main_cst_0_apply, val_main_cst_1_apply, zero_word, two_word, zero_add, zero_add]
  have ha : ∀ k, idx_main_v1 (idx_main_v2 (idx_main_v6 i)) k = ValueIdx.ix2 (i 0) k := fun k => funext fun a =>
    match a with | ⟨0, _⟩ => rfl | ⟨1, _⟩ => rfl
  have hb : ∀ k, idx_main_v4 (idx_main_v5 (idx_main_v7 i)) k = ValueIdx.ix2 (i 1) k := fun k => funext fun a =>
    match a with | ⟨0, _⟩ => rfl | ⟨1, _⟩ => rfl
  have hl : ∀ k, lidx_main_v10 i k = ValueIdx.ix2 (i 0) k := fun k => funext fun a =>
    match a with | ⟨0, _⟩ => rfl | ⟨1, _⟩ => rfl
  have hr : ∀ k, idx_main_v9 (ridx_main_v10 i k) = ValueIdx.ix2 (i 1) k := fun k => funext fun a =>
    match a with | ⟨0, _⟩ => rfl | ⟨1, _⟩ => rfl
  simp only [val_main_v0_apply, val_main_v3_apply, val_main_v9_apply, ha, hb, hl, hr]
  rfl

/-- The reference's result, element by element. -/
theorem result_apply (i : S4096x4096.Idx) :
    val_main_v16 (F := Ideal) fa fb i = Ideal.sqrt (max (rd2 (row fa (i 0)) (row fb (i 1))) 0) := by
  rw [val_main_v16_apply, val_main_v15_apply, d2_apply, val_main_v14_apply, val_main_cst_2_apply, zero_word]
  rfl

end Value

/-- The reference's run. -/
theorem run_post (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v16)
          = val_main_v16 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => ⟨(h c).1.trans (val_main_v16_eq _ _), (h c).2⟩, sem_eq_zero_of_no_sems (sig := sig) (by decide) r.2⟩)
    (Value.run m ρ)

end Cert.ReferenceIdeal.Hand
end
-- ==== Proof.Apart.lean ====
/-
  The precondition `apart`, read: every coordinate of the two arguments is a finite number, and every squared distance, as
  the reference expands it, is at least the kernel's floor.
-/
module

public import proofs.«01_k».proof.Proof.Gen.Pre_apart
public import proofs.«01_k».proof.Proof.Refer
public import Idealize.ShloMosaic.Lib.ReduceAll

@[expose] public section

noncomputable section

namespace Cert.Pre_apart.Hand

open Idealize.ShloMosaic
open Cert.Pre_apart Cert.Pre_apart.Gen
open Cert.KernelIdeal.Hand (row rd2 floorVal)

instance : Subsingleton S_.Idx := ⟨fun _ _ => funext fun a => a.elim0⟩

/-- The printed infinity is `⊤`. -/
theorem inf_word : Ideal.ofBits .f32 0x7F800000#32 = ⊤ := by
  simp [Ideal.ofBits, Ideal.ieee, -EReal.coe_mul]

/-- An element whose absolute value is below the infinity is finite. -/
theorem finite_of_lt (x : EReal) (h : max x (-x) < ⊤) : x ≠ ⊤ ∧ x ≠ ⊥ :=
  ⟨fun e => by subst e; simp at h, fun e => by subst e; simp at h⟩

/-- A comparison that came out true holds. -/
theorem of_ofBool (p : Prop) [Decidable p] (h : BitVec.ofBool (decide p) = 1#1) : p := by
  by_contra hp
  rw [decide_eq_false hp] at h
  exact absurd h (by decide)

/-- The three conditions, each at every element. -/
theorem of_fn (fa fb : S4096x256.Idx → EReal) (s : S4096x64.Idx → EReal) (h : fn (F := Ideal) fa fb s = fun _ => 1#1) :
    (∀ i, fa i ≠ ⊤ ∧ fa i ≠ ⊥) ∧ (∀ i, fb i ≠ ⊤ ∧ fb i ≠ ⊥)
      ∧ ∀ i : S4096x4096.Idx, floorVal ≤ rd2 (row fa (i 0)) (row fb (i 1)) := by
  have h0 := congrFun h (Shape.Idx.first h_S_)
  unfold fn fn_part1 at h0
  obtain ⟨h01, h2⟩ := IntOp.andi_eq_one.1 h0
  obtain ⟨hA, hB⟩ := IntOp.andi_eq_one.1 h01
  have eA := Host.reduce_andi_all _ _ _ _ _ hA
  have eB := Host.reduce_andi_all _ _ _ _ _ hB
  have eD := Host.reduce_andi_all _ _ _ _ _ h2
  refine ⟨fun i => finite_of_lt _ ?_, fun i => finite_of_lt _ ?_, fun i => ?_⟩
  · have e : BitVec.ofBool (decide (max (fa i) (-fa i) < Ideal.ofBits .f32 0x7F800000#32)) = 1#1 := eA i
    exact inf_word ▸ of_ofBool _ e
  · have e : BitVec.ofBool (decide (max (fb i) (-fb i) < Ideal.ofBits .f32 0x7F800000#32)) = 1#1 := eB i
    exact inf_word ▸ of_ofBool _ e
  · have e : BitVec.ofBool (decide (floorVal ≤ Cert.ReferenceIdeal.Read.val_main_v13 (F := Ideal) fa fb i)) = 1#1 := eD i
    exact Cert.ReferenceIdeal.Hand.d2_apply fa fb i ▸ of_ofBool _ e

end Cert.Pre_apart.Hand
end
-- ==== Proof.Agree.lean ====
/-
  The two programs agree: on arguments the precondition admits, the kernel's result and the reference's are one array.
-/
module

public import proofs.«01_k».proof.Proof.Bands
public import proofs.«01_k».proof.Proof.Apart

@[expose] public section

noncomputable section

namespace Cert.KernelIdeal.Hand

open Idealize.ShloMosaic Idealize.ShloMosaic.ValueIdx
open Cert.KernelIdeal Cert.KernelIdeal.Gen

/-- The kernel's array is the reference's. -/
theorem dist_eq (fa fb : S4096x256.Idx → EReal) (s : S4096x64.Idx → EReal)
    (h : Cert.Pre_apart.fn (F := Ideal) fa fb s = fun _ => 1#1) :
    dist fa fb = Cert.ReferenceIdeal.Read.val_main_v16 (F := Ideal) fa fb := by
  obtain ⟨ha, hb, hd⟩ := Cert.Pre_apart.Hand.of_fn fa fb s h
  funext i
  rw [Cert.ReferenceIdeal.Hand.result_apply]
  exact kval_eq _ _ (fun k => ha (ix2 (i 0) k)) (fun k => hb (ix2 (i 1) k)) (hd i)

end Cert.KernelIdeal.Hand
end
-- ==== Proof.lean ====
/-
  The proof of `Cert.Claim`: the runs (Proof/Run.lean, Proof/Same.lean, Proof/Refer.lean), each leaving arguments and
  semaphores as they were, and the agreement of the two results (Proof/Bands.lean, Proof/Agree.lean), put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_apart
public import proofs.«01_k».proof.Proof.Same
public import proofs.«01_k».proof.Proof.Agree

@[expose] public section

noncomputable section

namespace Cert.Proof

open Idealize.ShloMosaic Idealize.SL.Sem

/-- The kernel at the ideal values: arguments and semaphores as they were. -/
theorem kernel_frame : Cert.quiescent_KernelIdeal := fun m g _ =>
  Cert.KernelIdeal.Hand.run_frame (F := Ideal) m g

/-- The reference likewise. -/
theorem reference_frame : Cert.quiescent_ReferenceIdeal := fun m g _ =>
  (θ_run _ _ _).mono (fun _ h => ⟨fun c => (h.1 c).2, h.2⟩) (Cert.ReferenceIdeal.Hand.run_post m g)

/-- The two results are equal. -/
theorem agree : Cert.algebraic_KernelIdeal_ReferenceIdeal_pre_apart := fun m g m' g' hp hm => by
  refine ⟨fun c => Cert.KernelIdeal.Hand.outOf (F := Ideal) m c,
    (θ_run _ _ _).mono (fun _ h => h.1) (Cert.KernelIdeal.Hand.run_post (F := Ideal) m g),
    (θ_run _ _ _).mono (fun _ h c => ⟨(h.1 c).1.trans ?_, (h.1 c).2⟩) (Cert.ReferenceIdeal.Hand.run_post m' g')⟩
  rw [(hm c).1, (hm c).2.1]
  exact ((Cert.KernelIdeal.Hand.outOf_eq c m).trans (Cert.KernelIdeal.Hand.dist_eq _ _ _ (hp c))).symm

theorem claim : Cert.Claim :=
  ⟨Cert.Kernel.Gen.facts, Cert.KernelIdeal.Gen.facts, Cert.ReferenceIdeal.Gen.facts, Cert.Pre_apart.Gen.facts,
    fun m g _ => Cert.Kernel.Hand.run_frame m g,
    kernel_frame, fun m g _ => kernel_frame m g trivial,
    reference_frame, fun m g _ => reference_frame m g trivial,
    trivial, agree⟩

end Cert.Proof

end
